-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_values)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_values) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v69) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x2 : Shape := ⟨2, ![20000, 2]⟩
abbrev S4x80x125x160 : Shape := ⟨4, ![4, 80, 125, 160]⟩
abbrev S4x4x125x160 : Shape := ⟨4, ![4, 4, 125, 160]⟩
abbrev S4x1x125x160 : Shape := ⟨4, ![4, 1, 125, 160]⟩
abbrev S4x2 : Shape := ⟨2, ![4, 2]⟩
abbrev S4x125x160 : Shape := ⟨3, ![4, 125, 160]⟩
abbrev S1x125x160 : Shape := ⟨3, ![1, 125, 160]⟩
abbrev S125x160 : Shape := ⟨2, ![125, 160]⟩
abbrev S4x20000 : Shape := ⟨2, ![4, 20000]⟩
abbrev S4x1000 : Shape := ⟨2, ![4, 1000]⟩
abbrev S_ : Shape := ⟨0, ![]⟩
abbrev S4x125x160x4 : Shape := ⟨4, ![4, 125, 160, 4]⟩
abbrev S4x20000x4 : Shape := ⟨3, ![4, 20000, 4]⟩
abbrev S4x1000x1 : Shape := ⟨3, ![4, 1000, 1]⟩
abbrev S1 : Shape := ⟨1, ![1]⟩
abbrev S1x1x1 : Shape := ⟨3, ![1, 1, 1]⟩
abbrev S4x1000x4 : Shape := ⟨3, ![4, 1000, 4]⟩
abbrev S4x1000x2 : Shape := ⟨3, ![4, 1000, 2]⟩
abbrev S4x1 : Shape := ⟨2, ![4, 1]⟩
abbrev S4 : Shape := ⟨1, ![4]⟩

abbrev nBuf : Space → Nat
  | .hbm => 150
  | .vmem => 6
  | .smem => 0
  | _ => 0

abbrev hbmTy0_0 (i : Nat) : BufTy := match i % 128 with
  | 0 => ⟨S20000x2, .f32⟩
  | 1 => ⟨S4x80x125x160, .f32⟩
  | 2 => ⟨S4x4x125x160, .f32⟩
  | 3 => ⟨S4x1x125x160, .f32⟩
  | 4 => ⟨S4x2, .i32⟩
  | 5 => ⟨S4x1x125x160, .f32⟩
  | 6 => ⟨S4x125x160, .f32⟩
  | 7 => ⟨S4x125x160, .f32⟩
  | 8 => ⟨S4x125x160, .f32⟩
  | 9 => ⟨S4x20000, .f32⟩
  | 10 => ⟨S4x1000, .f32⟩
  | 11 => ⟨S4x1000, .i32⟩
  | 12 => ⟨S_, .f32⟩
  | 13 => ⟨S4x1000, .f32⟩
  | 14 => ⟨S4x1000, .i1⟩
  | 15 => ⟨S_, .i32⟩
  | 16 => ⟨S4x1000, .i32⟩
  | 17 => ⟨S4x125x160x4, .f32⟩
  | 18 => ⟨S4x20000x4, .f32⟩
  | 19 => ⟨S4x1000x1, .i32⟩
  | 20 => ⟨S_, .i32⟩
  | 21 => ⟨S4x1000x1, .i32⟩
  | 22 => ⟨S4x1000x1, .i1⟩
  | 23 => ⟨S_, .i32⟩
  | 24 => ⟨S4x1000x1, .i32⟩
  | 25 => ⟨S4x1000x1, .i32⟩
  | 26 => ⟨S4x1000x1, .i32⟩
  | 27 => ⟨S1, .i32⟩
  | 28 => ⟨S_, .i32⟩
  | 29 => ⟨S4x1000x1, .i32⟩
  | 30 => ⟨S4x1000x1, .i1⟩
  | 31 => ⟨S1x1x1, .i32⟩
  | 32 => ⟨S4x1000x1, .i32⟩
  | 33 => ⟨S4x1000x1, .i1⟩
  | 34 => ⟨S4x1000x1, .i1⟩
  | 35 => ⟨S_, .i1⟩
  | 36 => ⟨S4x1000, .i1⟩
  | 37 => ⟨S4x1000x4, .f32⟩
  | 38 => ⟨S4x1000x4, .i1⟩
  | 39 => ⟨S_, .f32⟩
  | 40 => ⟨S4x1000x4, .f32⟩
  | 41 => ⟨S4x1000x4, .f32⟩
  | 42 => ⟨S_, .i32⟩
  | 43 => ⟨S4x1000, .i32⟩
  | 44 => ⟨S4x1000, .i1⟩
  | 45 => ⟨S_, .i32⟩
  | 46 => ⟨S4x1000, .i32⟩
  | 47 => ⟨S4x1000, .i32⟩
  | 48 => ⟨S4x1000, .i32⟩
  | 49 => ⟨S4x1000x1, .i32⟩
  | 50 => ⟨S1, .i32⟩
  | 51 => ⟨S_, .i32⟩
  | 52 => ⟨S4x1000x1, .i32⟩
  | 53 => ⟨S4x1000x1, .i1⟩
  | 54 => ⟨S1x1x1, .i32⟩
  | 55 => ⟨S4x1000x1, .i32⟩
  | 56 => ⟨S4x1000x1, .i1⟩
  | 57 => ⟨S4x1000x1, .i1⟩
  | 58 => ⟨S_, .i1⟩
  | 59 => ⟨S4x1000, .i1⟩
  | 60 => ⟨S4x1000x2, .f32⟩
  | 61 => ⟨S4x1000x2, .i1⟩
  | 62 => ⟨S_, .f32⟩
  | 63 => ⟨S4x1000x2, .f32⟩
  | 64 => ⟨S4x1000x2, .f32⟩
  | 65 => ⟨S4x1000x1, .f32⟩
  | 66 => ⟨S4x1000, .f32⟩
  | 67 => ⟨S4x1000x1, .f32⟩
  | 68 => ⟨S4x1000, .f32⟩
  | 69 => ⟨S4x1000, .f32⟩
  | 70 => ⟨S4x1000x1, .f32⟩
  | 71 => ⟨S4x1000, .f32⟩
  | 72 => ⟨S4x1000x1, .f32⟩
  | 73 => ⟨S4x1000, .f32⟩
  | 74 => ⟨S4x1000, .f32⟩
  | 75 => ⟨S4x1000x1, .f32⟩
  | 76 => ⟨S4x1000, .f32⟩
  | 77 => ⟨S4x1000x1, .f32⟩
  | 78 => ⟨S4x1000, .f32⟩
  | 79 => ⟨S4x1000, .f32⟩
  | 80 => ⟨S4x1000x1, .f32⟩
  | 81 => ⟨S4x1000, .f32⟩
  | 82 => ⟨S4x1000x1, .f32⟩
  | 83 => ⟨S4x1000, .f32⟩
  | 84 => ⟨S4x1000, .f32⟩
  | 85 => ⟨S4x1, .i32⟩
  | 86 => ⟨S4, .i32⟩
  | 87 => ⟨S4, .f32⟩
  | 88 => ⟨S4x1, .f32⟩
  | 89 => ⟨S4x1, .i32⟩
  | 90 => ⟨S4, .i32⟩
  | 91 => ⟨S4, .f32⟩
  | 92 => ⟨S4x1, .f32⟩
  | 93 => ⟨S_, .f32⟩
  | 94 => ⟨S4x1, .f32⟩
  | 95 => ⟨S4x1, .f32⟩
  | 96 => ⟨S_, .f32⟩
  | 97 => ⟨S_, .f32⟩
  | 98 => ⟨S4x1000, .f32⟩
  | 99 => ⟨S4x1000, .f32⟩
  | 100 => ⟨S4x1000, .f32⟩
  | 101 => ⟨S4x1000, .f32⟩
  | 102 => ⟨S_, .f32⟩
  | 103 => ⟨S4x1, .f32⟩
  | 104 => ⟨S4x1, .f32⟩
  | 105 => ⟨S_, .f32⟩
  | 106 => ⟨S_, .f32⟩
  | 107 => ⟨S4x1000, .f32⟩
  | 108 => ⟨S4x1000, .f32⟩
  | 109 => ⟨S4x1000, .f32⟩
  | 110 => ⟨S4x1000, .f32⟩
  | 111 => ⟨S_, .f32⟩
  | 112 => ⟨S4x1, .f32⟩
  | 113 => ⟨S4x1, .f32⟩
  | 114 => ⟨S_, .f32⟩
  | 115 => ⟨S_, .f32⟩
  | 116 => ⟨S4x1000, .f32⟩
  | 117 => ⟨S4x1000, .f32⟩
  | 118 => ⟨S4x1000, .f32⟩
  | 119 => ⟨S4x1000, .f32⟩
  | 120 => ⟨S_, .f32⟩
  | 121 => ⟨S4x1, .f32⟩
  | 122 => ⟨S4x1, .f32⟩
  | 123 => ⟨S_, .f32⟩
  | 124 => ⟨S_, .f32⟩
  | 125 => ⟨S4x1000, .f32⟩
  | 126 => ⟨S4x1000, .f32⟩
  | 127 => ⟨S4x1000, .f32⟩
  | _ => ⟨S20000x2, .f32⟩

abbrev hbmTy0_1 (i : Nat) : BufTy := match i % 128 with
  | 0 => ⟨S4x1000, .f32⟩
  | 1 => ⟨S4x1000x1, .f32⟩
  | 2 => ⟨S4x1000x1, .f32⟩
  | 3 => ⟨S4x1000x1, .f32⟩
  | 4 => ⟨S4x1000x1, .f32⟩
  | 5 => ⟨S4x1000x4, .f32⟩
  | 6 => ⟨S4x1000, .f32⟩
  | 7 => ⟨S_, .f32⟩
  | 8 => ⟨S4x1000, .f32⟩
  | 9 => ⟨S4x1000, .f32⟩
  | 10 => ⟨S_, .f32⟩
  | 11 => ⟨S4x1000, .f32⟩
  | 12 => ⟨S4x1000, .i1⟩
  | 13 => ⟨S4x1000, .f32⟩
  | 14 => ⟨S_, .f32⟩
  | 15 => ⟨S4x1000, .f32⟩
  | 16 => ⟨S4x1000, .f32⟩
  | 17 => ⟨S_, .f32⟩
  | 18 => ⟨S4x1000, .f32⟩
  | 19 => ⟨S4x1000, .i1⟩
  | 20 => ⟨S4x1000, .i1⟩
  | 21 => ⟨S4x1000, .i1⟩
  | _ => ⟨S20000x2, .f32⟩

abbrev hbmTy (i : Nat) : BufTy := match i / 128 with
  | 0 => hbmTy0_0 i
  | 1 => hbmTy0_1 i
  | _ => ⟨S20000x2, .f32⟩

abbrev bufTy : (tb : Table) → Fin (tcTables nBuf tb) → BufTy
  | .hbm, ⟨i, _⟩ => hbmTy i
  | .local _ .vmem, ⟨0, _⟩ => ⟨S1x125x160, .f32⟩
  | .local _ .vmem, ⟨1, _⟩ => ⟨S1x125x160, .f32⟩
  | .local _ .vmem, ⟨2, _⟩ => ⟨S1x125x160, .f32⟩
  | .local _ .vmem, ⟨3, _⟩ => ⟨S1x125x160, .f32⟩
  | .local _ .vmem, ⟨4, _⟩ => ⟨S1x125x160, .f32⟩
  | .local _ .vmem, ⟨5, _⟩ => ⟨S1x125x160, .f32⟩
  | _, _ => ⟨S20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_values : Ref sig .tc := ⟨.hbm, 10, rfl⟩
abbrev main_indices : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_c_2 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_c_3 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v11 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_0 : Ref sig .tc := ⟨.hbm, 93, rfl⟩
abbrev main_v41 : Ref sig .tc := ⟨.hbm, 94, rfl⟩
abbrev main_v42 : Ref sig .tc := ⟨.hbm, 95, rfl⟩
abbrev main_cst_1 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_v43 : Ref sig .tc := ⟨.hbm, 101, rfl⟩
abbrev main_cst_2 : Ref sig .tc := ⟨.hbm, 102, rfl⟩
abbrev main_v44 : Ref sig .tc := ⟨.hbm, 103, rfl⟩
abbrev main_v45 : Ref sig .tc := ⟨.hbm, 104, rfl⟩
abbrev main_cst_3 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_v46 : Ref sig .tc := ⟨.hbm, 110, rfl⟩
abbrev main_cst_4 : Ref sig .tc := ⟨.hbm, 111, rfl⟩
abbrev main_v47 : Ref sig .tc := ⟨.hbm, 112, rfl⟩
abbrev main_v48 : Ref sig .tc := ⟨.hbm, 113, rfl⟩
abbrev main_cst_5 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_v49 : Ref sig .tc := ⟨.hbm, 119, rfl⟩
abbrev main_cst_6 : Ref sig .tc := ⟨.hbm, 120, rfl⟩
abbrev main_v50 : Ref sig .tc := ⟨.hbm, 121, rfl⟩
abbrev main_v51 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_call5_v3 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_cst_8 : Ref sig .tc := ⟨.hbm, 135, rfl⟩
abbrev main_v59 : Ref sig .tc := ⟨.hbm, 136, rfl⟩
abbrev main_v60 : Ref sig .tc := ⟨.hbm, 137, rfl⟩
abbrev main_cst_9 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_cst_10 : Ref sig .tc := ⟨.hbm, 142, rfl⟩
abbrev main_v64 : Ref sig .tc := ⟨.hbm, 143, rfl⟩
abbrev main_v65 : Ref sig .tc := ⟨.hbm, 144, rfl⟩
abbrev main_cst_11 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x125x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x125x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x125x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S20000x2 : Shape := ⟨2, ![20000, 2]⟩
abbrev S4x80x125x160 : Shape := ⟨4, ![4, 80, 125, 160]⟩
abbrev S4x4x125x160 : Shape := ⟨4, ![4, 4, 125, 160]⟩
abbrev S4x1x125x160 : Shape := ⟨4, ![4, 1, 125, 160]⟩
abbrev S4x2 : Shape := ⟨2, ![4, 2]⟩
abbrev S4x125x160x80 : Shape := ⟨4, ![4, 125, 160, 80]⟩
abbrev S4x20000x80 : Shape := ⟨3, ![4, 20000, 80]⟩
abbrev S_ : Shape := ⟨0, ![]⟩
abbrev S4x20000x1 : Shape := ⟨3, ![4, 20000, 1]⟩
abbrev S4x125x160x4 : Shape := ⟨4, ![4, 125, 160, 4]⟩
abbrev S4x20000x4 : Shape := ⟨3, ![4, 20000, 4]⟩
abbrev S4x125x160x1 : Shape := ⟨4, ![4, 125, 160, 1]⟩
abbrev S4x20000 : Shape := ⟨2, ![4, 20000]⟩
abbrev S4x1000 : Shape := ⟨2, ![4, 1000]⟩
abbrev S4x1000x1 : Shape := ⟨3, ![4, 1000, 1]⟩
abbrev S1 : Shape := ⟨1, ![1]⟩
abbrev S1x1x1 : Shape := ⟨3, ![1, 1, 1]⟩
abbrev S4x1000x4 : Shape := ⟨3, ![4, 1000, 4]⟩
abbrev S4x1000x2 : Shape := ⟨3, ![4, 1000, 2]⟩
abbrev S4x1 : Shape := ⟨2, ![4, 1]⟩
abbrev S4 : Shape := ⟨1, ![4]⟩

abbrev nBuf : Space → Nat
  | .hbm => 176
  | .vmem => 0
  | .smem => 0
  | _ => 0

abbrev hbmTy0_0 (i : Nat) : BufTy := match i % 128 with
  | 0 => ⟨S20000x2, .f32⟩
  | 1 => ⟨S4x80x125x160, .f32⟩
  | 2 => ⟨S4x4x125x160, .f32⟩
  | 3 => ⟨S4x1x125x160, .f32⟩
  | 4 => ⟨S4x2, .i32⟩
  | 5 => ⟨S4x125x160x80, .f32⟩
  | 6 => ⟨S4x20000x80, .f32⟩
  | 7 => ⟨S4x20000x80, .f32⟩
  | 8 => ⟨S4x20000x80, .f32⟩
  | 9 => ⟨S_, .f32⟩
  | 10 => ⟨S4x20000x80, .f32⟩
  | 11 => ⟨S4x20000x80, .f32⟩
  | 12 => ⟨S_, .f32⟩
  | 13 => ⟨S4x20000x80, .f32⟩
  | 14 => ⟨S4x20000x80, .f32⟩
  | 15 => ⟨S4x20000x1, .f32⟩
  | 16 => ⟨S4x125x160x4, .f32⟩
  | 17 => ⟨S4x20000x4, .f32⟩
  | 18 => ⟨S4x125x160x1, .f32⟩
  | 19 => ⟨S4x20000, .f32⟩
  | 20 => ⟨S4x20000, .f32⟩
  | 21 => ⟨S4x20000, .f32⟩
  | 22 => ⟨S_, .f32⟩
  | 23 => ⟨S4x20000, .f32⟩
  | 24 => ⟨S4x20000, .f32⟩
  | 25 => ⟨S_, .f32⟩
  | 26 => ⟨S4x20000, .f32⟩
  | 27 => ⟨S4x20000, .f32⟩
  | 28 => ⟨S_, .f32⟩
  | 29 => ⟨S4x20000x1, .f32⟩
  | 30 => ⟨S4x20000x1, .i1⟩
  | 31 => ⟨S4x20000x1, .f32⟩
  | 32 => ⟨S4x20000x1, .f32⟩
  | 33 => ⟨S_, .f32⟩
  | 34 => ⟨S_, .f32⟩
  | 35 => ⟨S4x20000x1, .f32⟩
  | 36 => ⟨S4x20000x1, .f32⟩
  | 37 => ⟨S4x20000, .f32⟩
  | 38 => ⟨S4x1000, .f32⟩
  | 39 => ⟨S4x1000, .i32⟩
  | 40 => ⟨S_, .f32⟩
  | 41 => ⟨S4x1000, .f32⟩
  | 42 => ⟨S4x1000, .i1⟩
  | 43 => ⟨S_, .i32⟩
  | 44 => ⟨S4x1000, .i32⟩
  | 45 => ⟨S4x1000x1, .i32⟩
  | 46 => ⟨S_, .i32⟩
  | 47 => ⟨S4x1000x1, .i32⟩
  | 48 => ⟨S4x1000x1, .i1⟩
  | 49 => ⟨S_, .i32⟩
  | 50 => ⟨S4x1000x1, .i32⟩
  | 51 => ⟨S4x1000x1, .i32⟩
  | 52 => ⟨S4x1000x1, .i32⟩
  | 53 => ⟨S1, .i32⟩
  | 54 => ⟨S_, .i32⟩
  | 55 => ⟨S4x1000x1, .i32⟩
  | 56 => ⟨S4x1000x1, .i1⟩
  | 57 => ⟨S1x1x1, .i32⟩
  | 58 => ⟨S4x1000x1, .i32⟩
  | 59 => ⟨S4x1000x1, .i1⟩
  | 60 => ⟨S4x1000x1, .i1⟩
  | 61 => ⟨S_, .i1⟩
  | 62 => ⟨S4x1000, .i1⟩
  | 63 => ⟨S4x1000x4, .f32⟩
  | 64 => ⟨S4x1000x4, .i1⟩
  | 65 => ⟨S_, .f32⟩
  | 66 => ⟨S4x1000x4, .f32⟩
  | 67 => ⟨S4x1000x4, .f32⟩
  | 68 => ⟨S_, .i32⟩
  | 69 => ⟨S4x1000, .i32⟩
  | 70 => ⟨S4x1000, .i1⟩
  | 71 => ⟨S_, .i32⟩
  | 72 => ⟨S4x1000, .i32⟩
  | 73 => ⟨S4x1000, .i32⟩
  | 74 => ⟨S4x1000, .i32⟩
  | 75 => ⟨S4x1000x1, .i32⟩
  | 76 => ⟨S1, .i32⟩
  | 77 => ⟨S_, .i32⟩
  | 78 => ⟨S4x1000x1, .i32⟩
  | 79 => ⟨S4x1000x1, .i1⟩
  | 80 => ⟨S1x1x1, .i32⟩
  | 81 => ⟨S4x1000x1, .i32⟩
  | 82 => ⟨S4x1000x1, .i1⟩
  | 83 => ⟨S4x1000x1, .i1⟩
  | 84 => ⟨S_, .i1⟩
  | 85 => ⟨S4x1000, .i1⟩
  | 86 => ⟨S4x1000x2, .f32⟩
  | 87 => ⟨S4x1000x2, .i1⟩
  | 88 => ⟨S_, .f32⟩
  | 89 => ⟨S4x1000x2, .f32⟩
  | 90 => ⟨S4x1000x2, .f32⟩
  | 91 => ⟨S4x1000x1, .f32⟩
  | 92 => ⟨S4x1000, .f32⟩
  | 93 => ⟨S4x1000x1, .f32⟩
  | 94 => ⟨S4x1000, .f32⟩
  | 95 => ⟨S4x1000, .f32⟩
  | 96 => ⟨S4x1000x1, .f32⟩
  | 97 => ⟨S4x1000, .f32⟩
  | 98 => ⟨S4x1000x1, .f32⟩
  | 99 => ⟨S4x1000, .f32⟩
  | 100 => ⟨S4x1000, .f32⟩
  | 101 => ⟨S4x1000x1, .f32⟩
  | 102 => ⟨S4x1000, .f32⟩
  | 103 => ⟨S4x1000x1, .f32⟩
  | 104 => ⟨S4x1000, .f32⟩
  | 105 => ⟨S4x1000, .f32⟩
  | 106 => ⟨S4x1000x1, .f32⟩
  | 107 => ⟨S4x1000, .f32⟩
  | 108 => ⟨S4x1000x1, .f32⟩
  | 109 => ⟨S4x1000, .f32⟩
  | 110 => ⟨S4x1000, .f32⟩
  | 111 => ⟨S4x1, .i32⟩
  | 112 => ⟨S4, .i32⟩
  | 113 => ⟨S4, .f32⟩
  | 114 => ⟨S4x1, .f32⟩
  | 115 => ⟨S4x1, .i32⟩
  | 116 => ⟨S4, .i32⟩
  | 117 => ⟨S4, .f32⟩
  | 118 => ⟨S4x1, .f32⟩
  | 119 => ⟨S_, .f32⟩
  | 120 => ⟨S4x1, .f32⟩
  | 121 => ⟨S4x1, .f32⟩
  | 122 => ⟨S_, .f32⟩
  | 123 => ⟨S_, .f32⟩
  | 124 => ⟨S4x1000, .f32⟩
  | 125 => ⟨S4x1000, .f32⟩
  | 126 => ⟨S4x1000, .f32⟩
  | 127 => ⟨S4x1000, .f32⟩
  | _ => ⟨S20000x2, .f32⟩

abbrev hbmTy0_1 (i : Nat) : BufTy := match i % 128 with
  | 0 => ⟨S_, .f32⟩
  | 1 => ⟨S4x1, .f32⟩
  | 2 => ⟨S4x1, .f32⟩
  | 3 => ⟨S_, .f32⟩
  | 4 => ⟨S_, .f32⟩
  | 5 => ⟨S4x1000, .f32⟩
  | 6 => ⟨S4x1000, .f32⟩
  | 7 => ⟨S4x1000, .f32⟩
  | 8 => ⟨S4x1000, .f32⟩
  | 9 => ⟨S_, .f32⟩
  | 10 => ⟨S4x1, .f32⟩
  | 11 => ⟨S4x1, .f32⟩
  | 12 => ⟨S_, .f32⟩
  | 13 => ⟨S_, .f32⟩
  | 14 => ⟨S4x1000, .f32⟩
  | 15 => ⟨S4x1000, .f32⟩
  | 16 => ⟨S4x1000, .f32⟩
  | 17 => ⟨S4x1000, .f32⟩
  | 18 => ⟨S_, .f32⟩
  | 19 => ⟨S4x1, .f32⟩
  | 20 => ⟨S4x1, .f32⟩
  | 21 => ⟨S_, .f32⟩
  | 22 => ⟨S_, .f32⟩
  | 23 => ⟨S4x1000, .f32⟩
  | 24 => ⟨S4x1000, .f32⟩
  | 25 => ⟨S4x1000, .f32⟩
  | 26 => ⟨S4x1000, .f32⟩
  | 27 => ⟨S4x1000x1, .f32⟩
  | 28 => ⟨S4x1000x1, .f32⟩
  | 29 => ⟨S4x1000x1, .f32⟩
  | 30 => ⟨S4x1000x1, .f32⟩
  | 31 => ⟨S4x1000x4, .f32⟩
  | 32 => ⟨S4x1000, .f32⟩
  | 33 => ⟨S_, .f32⟩
  | 34 => ⟨S4x1000, .f32⟩
  | 35 => ⟨S4x1000, .f32⟩
  | 36 => ⟨S_, .f32⟩
  | 37 => ⟨S4x1000, .f32⟩
  | 38 => ⟨S4x1000, .i1⟩
  | 39 => ⟨S4x1000, .f32⟩
  | 40 => ⟨S_, .f32⟩
  | 41 => ⟨S4x1000, .f32⟩
  | 42 => ⟨S4x1000, .f32⟩
  | 43 => ⟨S_, .f32⟩
  | 44 => ⟨S4x1000, .f32⟩
  | 45 => ⟨S4x1000, .i1⟩
  | 46 => ⟨S4x1000, .i1⟩
  | 47 => ⟨S4x1000, .i1⟩
  | _ => ⟨S20000x2, .f32⟩

abbrev hbmTy (i : Nat) : BufTy := match i / 128 with
  | 0 => hbmTy0_0 i
  | 1 => hbmTy0_1 i
  | _ => ⟨S20000x2, .f32⟩

abbrev bufTy : (tb : Table) → Fin (tcTables nBuf tb) → BufTy
  | .hbm, ⟨i, _⟩ => hbmTy i
  | _, _ => ⟨S20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_v24 : Ref sig .tc := ⟨.hbm, 37, rfl⟩
abbrev main_values : Ref sig .tc := ⟨.hbm, 38, rfl⟩
abbrev main_indices : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_c_2 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_c_3 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v29 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_6 : Ref sig .tc := ⟨.hbm, 119, rfl⟩
abbrev main_v59 : Ref sig .tc := ⟨.hbm, 120, rfl⟩
abbrev main_v60 : Ref sig .tc := ⟨.hbm, 121, rfl⟩
abbrev main_cst_7 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_v61 : Ref sig .tc := ⟨.hbm, 127, rfl⟩
abbrev main_cst_8 : Ref sig .tc := ⟨.hbm, 128, rfl⟩
abbrev main_v62 : Ref sig .tc := ⟨.hbm, 129, rfl⟩
abbrev main_v63 : Ref sig .tc := ⟨.hbm, 130, rfl⟩
abbrev main_cst_9 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_call4_v3 : Ref sig .tc := ⟨.hbm, 135, rfl⟩
abbrev main_v64 : Ref sig .tc := ⟨.hbm, 136, rfl⟩
abbrev main_cst_10 : Ref sig .tc := ⟨.hbm, 137, rfl⟩
abbrev main_v65 : Ref sig .tc := ⟨.hbm, 138, rfl⟩
abbrev main_v66 : Ref sig .tc := ⟨.hbm, 139, rfl⟩
abbrev main_cst_11 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_call5_v3 : Ref sig .tc := ⟨.hbm, 144, rfl⟩
abbrev main_v67 : Ref sig .tc := ⟨.hbm, 145, rfl⟩
abbrev main_cst_12 : Ref sig .tc := ⟨.hbm, 146, rfl⟩
abbrev main_v68 : Ref sig .tc := ⟨.hbm, 147, rfl⟩
abbrev main_v69 : Ref sig .tc := ⟨.hbm, 148, rfl⟩
abbrev main_cst_13 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_call6_v3 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_cst_14 : Ref sig .tc := ⟨.hbm, 161, rfl⟩
abbrev main_v77 : Ref sig .tc := ⟨.hbm, 162, rfl⟩
abbrev main_v78 : Ref sig .tc := ⟨.hbm, 163, rfl⟩
abbrev main_cst_15 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_cst_16 : Ref sig .tc := ⟨.hbm, 168, rfl⟩
abbrev main_v82 : Ref sig .tc := ⟨.hbm, 169, rfl⟩
abbrev main_v83 : Ref sig .tc := ⟨.hbm, 170, rfl⟩
abbrev main_cst_17 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩

abbrev nD : Nat := 1
abbrev τ : Topo := Topo.v7x

variable {F : FTy → Type} [FloatOps F]
-- ==== Proof.Detect.lean ====
/-
  What both programs compute from the masked scores on: the thousand best locations of each image, their regressions
  and coordinates, the boxes clipped to the image, and the three per-box arrays returned beside them. Each step is one
  named function of arrays, so the two programs' readings can be compared step by step.
-/
module

public import proofs.«01_k».proof.Proof.Gen.KernelIdeal

@[expose] public section

set_option maxRecDepth 16384

noncomputable section

open Idealize.ShloMosaic

namespace Cert.KernelIdeal.Detect

open Cert.KernelIdeal Cert.KernelIdeal.Gen

variable {F : FTy → Type} [FloatOps F]

/-- The 1000 largest scores of each image, in descending order. -/
def topScores (M : FVec F S4x20000 .f32) : FVec F S4x1000 .f32 :=
  (Host.topK S4x1000 1 (FloatOps.cmpfTotal .gt) M sliceFits_S4x20000_S4x1000).1

/-- The locations of the 1000 largest scores of each image. -/
def topLocs (M : FVec F S4x20000 .f32) : IVec S4x1000 32 :=
  (Host.topK S4x1000 1 (FloatOps.cmpfTotal .gt) M sliceFits_S4x20000_S4x1000).2

/-- A score is kept where it is not negative. -/
def valid (s : FVec F S4x1000 .f32) : IVec S4x1000 1 :=
  cmpf .oge s (broadcastInDim S4x1000 ![] bcast_S_S4x1000 (constant S_ .f32 0x00000000#32))

/-- The label of every box: one. -/
def labels : IVec S4x1000 32 := broadcastInDim S4x1000 ![] bcast_S_S4x1000 (constantI S_ 32 1#32)

/-- The regression head with the channels moved last and the grid laid out as one row of locations. -/
def regRows (a2 : FVec F S4x4x125x160 .f32) : FVec F S4x20000x4 .f32 :=
  shapeCast S4x20000x4 (transpose S4x125x160x4 [0, 2, 3, 1] a2 transposes_S4x4x125x160_S4x125x160x4_0_2_3_1)
    shapeCasts_S4x125x160x4_S4x20000x4

/-- The locations as a [4, 1000, 1] array. -/
def column (i : IVec S4x1000 32) : IVec S4x1000x1 32 := broadcastInDim S4x1000x1 ![0, 1] bcast_S4x1000_S4x1000x1_0_1 i

/-- Negative indices counted from the end, on a [4, 1000, 1] array of indices. -/
def wrapColumn (i : IVec S4x1000x1 32) : IVec S4x1000x1 32 :=
  select (cmpi .slt i (broadcastInDim S4x1000x1 ![] bcast_S_S4x1000x1 (constantI S_ 32 0#32)))
    (addi i (broadcastInDim S4x1000x1 ![] bcast_S_S4x1000x1 (constantI S_ 32 20000#32))) i

/-- Negative indices counted from the end, on a [4, 1000] array of indices. -/
def wrap (i : IVec S4x1000 32) : IVec S4x1000 32 :=
  select (cmpi .slt i (broadcastInDim S4x1000 ![] bcast_S_S4x1000 (constantI S_ 32 0#32)))
    (addi i (broadcastInDim S4x1000 ![] bcast_S_S4x1000 (constantI S_ 32 20000#32))) i

/-- Where an index lies in `0 … 19999`. -/
def inRange (i : IVec S4x1000x1 32) : IVec S4x1000 1 :=
  Host.reduce IntOp.andi
    (andi (cmpi .sge i (broadcastInDim S4x1000x1 ![] bcast_S_S4x1000x1 (constantI S_ 32 0#32)))
      (cmpi .sle i (broadcastInDim S4x1000x1 ![0, 1, 2] bcast_S1x1x1_S4x1000x1_0_1_2
        (broadcastInDim S1x1x1 ![2] bcast_S1_S1x1x1_2 (constantI S1 32 19999#32)))))
    (constantI S_ 1 1#1) reducesTo_S4x1000x1_S4x1000_d2 h_S_

/-- The four regressions at the given indices of each image, not-a-number where an index is out of range. -/
def takeReg (R : FVec F S4x20000x4 .f32) (i : IVec S4x1000x1 32) : FVec F S4x1000x4 .f32 :=
  select (broadcastInDim S4x1000x4 ![0, 1] bcast_S4x1000_S4x1000x4_0_1 (inRange (wrapColumn i)))
    (Host.gather gather_S4x20000x4_S4x1000x1_S4x1000x4_2_1_0_0_1_2_114 R (wrapColumn i))
    (broadcastInDim S4x1000x4 ![] bcast_S_S4x1000x4 (constant S_ .f32 0x7FC00000#32))

/-- The two coordinates of the given locations, not-a-number where an index is out of range. -/
def takeLoc (L : FVec F S20000x2 .f32) (i : IVec S4x1000 32) : FVec F S4x1000x2 .f32 :=
  select (broadcastInDim S4x1000x2 ![0, 1] bcast_S4x1000_S4x1000x2_0_1 (inRange (column (wrap i))))
    (Host.gather gather_S20000x2_S4x1000x1_S4x1000x2_2_0_n_n_0_2_12 L (column (wrap i)))
    (broadcastInDim S4x1000x2 ![] bcast_S_S4x1000x2 (constant S_ .f32 0x7FC00000#32))

/-- The horizontal coordinate of each location. -/
def xOf (P : FVec F S4x1000x2 .f32) : FVec F S4x1000 .f32 :=
  shapeCast S4x1000 (extractStridedSlice S4x1000x1 ![0, 0, 0] P slices_S4x1000x2_S4x1000x1_0_0_0) shapeCasts_S4x1000x1_S4x1000

/-- The vertical coordinate of each location. -/
def yOf (P : FVec F S4x1000x2 .f32) : FVec F S4x1000 .f32 :=
  shapeCast S4x1000 (extractStridedSlice S4x1000x1 ![0, 0, 1] P slices_S4x1000x2_S4x1000x1_0_0_1) shapeCasts_S4x1000x1_S4x1000

/-- The left edges before clipping: coordinate minus the first regression. -/
def left (P : FVec F S4x1000x2 .f32) (R : FVec F S4x1000x4 .f32) : FVec F S4x1000 .f32 :=
  subf (xOf P)
    (shapeCast S4x1000 (extractStridedSlice S4x1000x1 ![0, 0, 0] R slices_S4x1000x4_S4x1000x1_0_0_0) shapeCasts_S4x1000x1_S4x1000)

/-- The top edges before clipping: coordinate minus the second regression. -/
def top (P : FVec F S4x1000x2 .f32) (R : FVec F S4x1000x4 .f32) : FVec F S4x1000 .f32 :=
  subf (yOf P)
    (shapeCast S4x1000 (extractStridedSlice S4x1000x1 ![0, 0, 1] R slices_S4x1000x4_S4x1000x1_0_0_1) shapeCasts_S4x1000x1_S4x1000)

/-- The right edges before clipping: coordinate plus the third regression. -/
def right (P : FVec F S4x1000x2 .f32) (R : FVec F S4x1000x4 .f32) : FVec F S4x1000 .f32 :=
  addf (xOf P)
    (shapeCast S4x1000 (extractStridedSlice S4x1000x1 ![0, 0, 2] R slices_S4x1000x4_S4x1000x1_0_0_2) shapeCasts_S4x1000x1_S4x1000)

/-- The bottom edges before clipping: coordinate plus the fourth regression. -/
def bottom (P : FVec F S4x1000x2 .f32) (R : FVec F S4x1000x4 .f32) : FVec F S4x1000 .f32 :=
  addf (yOf P)
    (shapeCast S4x1000 (extractStridedSlice S4x1000x1 ![0, 0, 3] R slices_S4x1000x4_S4x1000x1_0_0_3) shapeCasts_S4x1000x1_S4x1000)

/-- The image heights. -/
def height (a4 : IVec S4x2 32) : FVec F S4x1 .f32 :=
  broadcastInDim S4x1 ![0] bcast_S4_S4x1_0
    (sitofp .f32 (shapeCast S4 (extractStridedSlice S4x1 ![0, 0] a4 slices_S4x2_S4x1_0_0) shapeCasts_S4x1_S4))

/-- The image widths. -/
def width (a4 : IVec S4x2 32) : FVec F S4x1 .f32 :=
  broadcastInDim S4x1 ![0] bcast_S4_S4x1_0
    (sitofp .f32 (shapeCast S4 (extractStridedSlice S4x1 ![0, 1] a4 slices_S4x2_S4x1_0_1) shapeCasts_S4x1_S4))

/-- A length less one. -/
def lessOne (n : FVec F S4x1 .f32) : FVec F S4x1 .f32 :=
  subf n (broadcastInDim S4x1 ![] bcast_S_S4x1 (constant S_ .f32 0x3F800000#32))

/-- An edge clipped below by `lo` and above by each image's bound `hi`. -/
def clip (lo : FVec F S_ .f32) (e : FVec F S4x1000 .f32) (hi : FVec F S4x1 .f32) : FVec F S4x1000 .f32 :=
  minimumf (broadcastInDim S4x1000 ![0, 1] bcast_S4x1_S4x1000_0_1 hi)
    (maximumf (broadcastInDim S4x1000 ![] bcast_S_S4x1000 lo) e)

/-- One coordinate as the last axis of a [4, 1000, 1] array. -/
def edge (e : FVec F S4x1000 .f32) : FVec F S4x1000x1 .f32 := broadcastInDim S4x1000x1 ![0, 1] bcast_S4x1000_S4x1000x1_0_1 e

/-- The boxes: left, top, right and bottom side by side. -/
def boxes (x1 y1 x2 y2 : FVec F S4x1000 .f32) : FVec F S4x1000x4 .f32 :=
  concatenate S4x1000x4 2 [⟨S4x1000x1, edge x1⟩, ⟨S4x1000x1, edge y1⟩, ⟨S4x1000x1, edge x2⟩, ⟨S4x1000x1, edge y2⟩]
    concatenates_S4x1000x1_S4x1000x1_S4x1000x1_S4x1000x1_S4x1000x4_d2

/-- Where the extent from `a` to `b`, counted in pixels, is not negative. -/
def spans (a b : FVec F S4x1000 .f32) : IVec S4x1000 1 :=
  cmpf .oge (addf (subf b a) (broadcastInDim S4x1000 ![] bcast_S_S4x1000 (constant S_ .f32 0x3F800000#32)))
    (broadcastInDim S4x1000 ![] bcast_S_S4x1000 (constant S_ .f32 0x00000000#32))

/-- The boxes kept: both extents not negative and the score kept. -/
def keep (x1 y1 x2 y2 : FVec F S4x1000 .f32) (v : IVec S4x1000 1) : IVec S4x1000 1 :=
  andi (andi (spans x1 x2) (spans y1 y2)) v

/-! ## The four returned arrays as functions of the masked scores and the other arguments -/

variable (a0 : FVec F S20000x2 .f32) (a2 : FVec F S4x4x125x160 .f32) (a4 : IVec S4x2 32) (M : FVec F S4x20000 .f32)

/-- The regressions of the best locations. -/
def bestReg : FVec F S4x1000x4 .f32 := takeReg (regRows a2) (column (topLocs M))

/-- The coordinates of the best locations. -/
def bestLoc : FVec F S4x1000x2 .f32 := takeLoc a0 (topLocs M)

/-- The lower bound of every edge: zero. -/
def zero : FVec F S_ .f32 := constant S_ .f32 0x00000000#32

/-- The left edges. -/
def x1 : FVec F S4x1000 .f32 := clip zero (left (bestLoc a0 M) (bestReg a2 M)) (lessOne (width a4))

/-- The top edges. -/
def y1 : FVec F S4x1000 .f32 := clip zero (top (bestLoc a0 M) (bestReg a2 M)) (lessOne (height a4))

/-- The right edges. -/
def x2 : FVec F S4x1000 .f32 := clip zero (right (bestLoc a0 M) (bestReg a2 M)) (lessOne (width a4))

/-- The bottom edges. -/
def y2 : FVec F S4x1000 .f32 := clip zero (bottom (bestLoc a0 M) (bestReg a2 M)) (lessOne (height a4))

/-- The detections: the clipped boxes. -/
def detections : FVec F S4x1000x4 .f32 := boxes (x1 a0 a2 a4 M) (y1 a0 a2 a4 M) (x2 a0 a2 a4 M) (y2 a0 a2 a4 M)

/-- The mask of the boxes kept. -/
def kept : IVec S4x1000 1 :=
  keep (x1 a0 a2 a4 M) (y1 a0 a2 a4 M) (x2 a0 a2 a4 M) (y2 a0 a2 a4 M) (valid (topScores M))

end Cert.KernelIdeal.Detect
-- ==== Proof.Tail.lean ====
/-
  What each group of host operations after the region leaves in the arrays the later groups read, as a function of what
  the group itself reads.
-/
module

public import proofs.«01_k».proof.Proof.Detect
public import proofs.«01_k».proof.Proof.Gen.KernelIdeal.Frame

@[expose] public section

set_option maxRecDepth 16384
set_option maxHeartbeats 2000000

noncomputable section

open Idealize.ShloMosaic Idealize.ShloMosaic.TcCoe Idealize.ShloMosaic.StableHlo

namespace Cert.KernelIdeal.Tail

open Cert.KernelIdeal Cert.KernelIdeal.Gen Cert.KernelIdeal.Detect

variable {F : FTy → Type} [FloatOps F] (W : Valuation τ sig (Elt F))

/-- The contents of a TensorCore array in a valuation. -/
abbrev at_ (W : Valuation τ sig (Elt F)) (b : Ref sig .tc) := W (Proc.devRef .tc b)

/-- The region's array as one row of scores for each image. -/
abbrev scores : FVec F S4x20000 .f32 :=
  shapeCast S4x20000 (show FVec F S4x125x160 .f32 from at_ W main_v3) shapeCasts_S4x125x160_S4x20000

/-! ## The best scores and their locations -/

/-- The first group leaves the best scores. -/
theorem values : after hostOps1 W (Proc.devRef .tc main_values) = topScores (scores W) := by
  simp only [hostOps1]; after_results_simp; rfl

/-- The first group leaves the locations of the best scores. -/
theorem indices : after hostOps1 W (Proc.devRef .tc main_indices) = topLocs (scores W) := by
  simp only [hostOps1]; after_results_simp; rfl

/-- The first group leaves the mask of the scores kept. -/
theorem v6 : after hostOps1 W (Proc.devRef .tc main_v6) = valid (topScores (scores W)) := by
  simp only [hostOps1]; after_results_simp; rfl

/-- The first group leaves the labels. -/
theorem v7 : after hostOps1 W (Proc.devRef .tc main_v7) = labels := by
  simp only [hostOps1]; after_results_simp; rfl

/-- The first group leaves the regressions, one row of locations for each image. -/
theorem v9 : after hostOps1 W (Proc.devRef .tc main_v9) = regRows (at_ W main_arg2) := by
  simp only [hostOps1]; after_results_simp; rfl

/-- The first group leaves the best locations as a column. -/
theorem v10 : after hostOps1 W (Proc.devRef .tc main_v10) = column (topLocs (scores W)) := by
  simp only [hostOps1]; after_results_simp; rfl

/-! ## The regressions and the coordinates there -/

/-- The second group gathers the regressions at the column of locations. -/
theorem v11 : after hostOps1_1 W (Proc.devRef .tc main_v11) = takeReg (at_ W main_v9) (at_ W main_v10) := by
  simp only [hostOps1_1, TRef.binary, TRef.nullary, TRef.ternary, TRef.unary, TRef.toBuf, TRef.ofBuf, cast_eq]
  after_results_simp; rfl

/-- The third group gathers the coordinates of the locations. -/
theorem v12 : after hostOps1_2 W (Proc.devRef .tc main_v12) = takeLoc (at_ W main_arg0) (at_ W main_indices) := by
  simp only [hostOps1_2, TRef.binary, TRef.nullary, TRef.ternary, TRef.unary, TRef.toBuf, TRef.ofBuf, cast_eq]
  after_results_simp; rfl

/-! ## The edges before clipping, and the bounds -/

/-- The fourth group leaves the left edges. -/
theorem v17 : after hostOps1_3 W (Proc.devRef .tc main_v17) = left (at_ W main_v12) (at_ W main_v11) := by
  simp only [hostOps1_3]; after_results_simp; rfl

/-- The fourth group leaves the top edges. -/
theorem v22 : after hostOps1_3 W (Proc.devRef .tc main_v22) = top (at_ W main_v12) (at_ W main_v11) := by
  simp only [hostOps1_3]; after_results_simp; rfl

/-- The fourth group leaves the right edges. -/
theorem v27 : after hostOps1_3 W (Proc.devRef .tc main_v27) = right (at_ W main_v12) (at_ W main_v11) := by
  simp only [hostOps1_3]; after_results_simp; rfl

/-- The fourth group leaves the bottom edges. -/
theorem v32 : after hostOps1_3 W (Proc.devRef .tc main_v32) = bottom (at_ W main_v12) (at_ W main_v11) := by
  simp only [hostOps1_3]; after_results_simp; rfl

/-- The fourth group leaves the image heights. -/
theorem v36 : after hostOps1_3 W (Proc.devRef .tc main_v36) = height (at_ W main_arg4) := by
  simp only [hostOps1_3]; after_results_simp; rfl

/-- The fourth group leaves the image widths. -/
theorem v40 : after hostOps1_3 W (Proc.devRef .tc main_v40) = width (at_ W main_arg4) := by
  simp only [hostOps1_3]; after_results_simp; rfl

/-- The fourth group leaves the bound of the left edges: width less one. -/
theorem v42 : after hostOps1_3 W (Proc.devRef .tc main_v42) = lessOne (width (at_ W main_arg4)) := by
  simp only [hostOps1_3]; after_results_simp; rfl

/-- The fourth group leaves the lower bound of the left edges. -/
theorem cst_1 : after hostOps1_3 W (Proc.devRef .tc main_cst_1) = zero := by
  simp only [hostOps1_3]; after_results_simp; rfl

/-- The sixth group leaves the bound of the right edges: width less one. -/
theorem v45 : after hostOps1_5 W (Proc.devRef .tc main_v45) = lessOne (at_ W main_v40) := by
  simp only [hostOps1_5]; after_results_simp; rfl

/-- The sixth group leaves the lower bound of the right edges. -/
theorem cst_3 : after hostOps1_5 W (Proc.devRef .tc main_cst_3) = zero := by
  simp only [hostOps1_5]; after_results_simp; rfl

/-- The eighth group leaves the bound of the top edges: height less one. -/
theorem v48 : after hostOps1_7 W (Proc.devRef .tc main_v48) = lessOne (at_ W main_v36) := by
  simp only [hostOps1_7]; after_results_simp; rfl

/-- The eighth group leaves the lower bound of the top edges. -/
theorem cst_5 : after hostOps1_7 W (Proc.devRef .tc main_cst_5) = zero := by
  simp only [hostOps1_7]; after_results_simp; rfl

/-- The tenth group leaves the bound of the bottom edges: height less one. -/
theorem v51 : after hostOps1_9 W (Proc.devRef .tc main_v51) = lessOne (at_ W main_v36) := by
  simp only [hostOps1_9]; after_results_simp; rfl

/-- The tenth group leaves the lower bound of the bottom edges. -/
theorem cst_7 : after hostOps1_9 W (Proc.devRef .tc main_cst_7) = zero := by
  simp only [hostOps1_9]; after_results_simp; rfl

/-! ## The clipped edges -/

/-- The fifth group clips the left edges. -/
theorem v43 : after hostOps1_4 W (Proc.devRef .tc main_v43) = clip (at_ W main_cst_1) (at_ W main_v17) (at_ W main_v42) := by
  simp only [hostOps1_4, TRef.binary, TRef.unary, TRef.toBuf, TRef.ofBuf, cast_eq]
  after_results_simp; rfl

/-- The seventh group clips the right edges. -/
theorem v46 : after hostOps1_6 W (Proc.devRef .tc main_v46) = clip (at_ W main_cst_3) (at_ W main_v27) (at_ W main_v45) := by
  simp only [hostOps1_6, TRef.binary, TRef.unary, TRef.toBuf, TRef.ofBuf, cast_eq]
  after_results_simp; rfl

/-- The ninth group clips the top edges. -/
theorem v49 : after hostOps1_8 W (Proc.devRef .tc main_v49) = clip (at_ W main_cst_5) (at_ W main_v22) (at_ W main_v48) := by
  simp only [hostOps1_8, TRef.binary, TRef.unary, TRef.toBuf, TRef.ofBuf, cast_eq]
  after_results_simp; rfl

/-- The eleventh group clips the bottom edges. -/
theorem v52 : after hostOps1_10 W (Proc.devRef .tc main_v52) = clip (at_ W main_cst_7) (at_ W main_v32) (at_ W main_v51) := by
  simp only [hostOps1_10, TRef.binary, TRef.unary, TRef.toBuf, TRef.ofBuf, cast_eq]
  after_results_simp; rfl

/-! ## The boxes and the mask -/

/-- The twelfth group leaves the boxes. -/
theorem v57 : after hostOps1_11 W (Proc.devRef .tc main_v57)
    = boxes (at_ W main_v43) (at_ W main_v49) (at_ W main_v46) (at_ W main_v52) := by
  simp only [hostOps1_11]; after_results_simp
  dsimp only [Matrix.cons_val]
  rfl

/-- The twelfth group leaves the mask of the boxes kept. -/
theorem v69 : after hostOps1_11 W (Proc.devRef .tc main_v69)
    = keep (at_ W main_v43) (at_ W main_v49) (at_ W main_v46) (at_ W main_v52) (at_ W main_v6) := by
  simp only [hostOps1_11]; after_results_simp; rfl

end Cert.KernelIdeal.Tail
-- ==== Proof.Scores.lean ====
/-
  The scores the kernel writes: its result array, [4, 125, 160], after the four grid points, as one function of the
  two argument arrays it reads.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Scores

open Cert.KernelIdeal Cert.KernelIdeal.Gen

/-- The masked scores of all four images on the 125 by 160 grid: where the class-0 probability exceeds the threshold
    the class probability times the centerness probability, elsewhere minus one. -/
abbrev grid (cls ctr : FVec Ideal S4x125x160 .f32) : FVec Ideal S4x125x160 .f32 :=
  select (cmpf .ogt (logistic cls) (broadcast S4x125x160 (FloatOps.ofBits .f32 0x3D4CCCCD#32)))
    (mulf (logistic cls) (logistic ctr)) (broadcast S4x125x160 (FloatOps.ofBits .f32 0xBF800000#32))

variable (m : (ℓ : Loc nD τ sig) → Buf (Elt Ideal) ℓ)

/-- The class-0 logits the region reads: channel 0 of the class head. -/
abbrev clsIn (c : Dev nD) : FVec Ideal S4x125x160 .f32 := V m c main_v1

/-- The centerness logits the region reads. -/
abbrev ctrIn (c : Dev nD) : FVec Ideal S4x125x160 .f32 := V m c main_v2

/-- The index maps of the three windows: point `t` holds image `t`. -/
theorem idx_val : ∀ t : Fin cfg0.N, win0_0.index t = ![t.val, 0, 0] ∧ win0_1.index t = ![t.val, 0, 0]
    ∧ win0_2.index t = ![t.val, 0, 0] :=
  (by decide +kernel : ∀ t : Fin grid0.N, _)

/-- What point `t` stores at block index `y` is the masked score at the array index `y` sits at. -/
theorem point (c : Dev nD) (t : Fin cfg0.N) (y) : k0_pay1 (iblk m c 0 t) (iblk m c 1 t) y
    = grid (clsIn m c) (ctrIn m c) (((cfg0.win 2).blk t).view.emb y) := by
  pointwise [k0_pay1, grid]
  blk_point [iblk, idx_val t]

/-- The result array after the run holds the masked scores. -/
theorem final (c : Dev nD) : (dats m 0 c).arrAt 2 (cfgs 0).N = grid (clsIn m c) (ctrIn m c) := by
  refine (dats m 0 c).arrAt_eq_of_covers 2 _ (by decide +kernel) fun t _ y => ?_
  blk_simp
  rw [after0_2]; frame_out
  exact point m c t y

end Cert.KernelIdeal.Scores
-- ==== Proof.Masked.lean ====
/-
  The equation between the two programs: the kernel's score array read as [4, 20000] is the reference's masked score
  array, on equal arguments.
-/
module

public import proofs.«01_k».proof.Proof.Scores
public import proofs.«01_k».proof.Proof.Gen.ReferenceIdeal.Run

@[expose] public section

set_option maxRecDepth 16384

noncomputable section

open Idealize.ShloMosaic Idealize.ShloMosaic.TcCoe Idealize.SL.Sem

namespace Cert.KernelIdeal.Masked

open Cert.KernelIdeal Cert.KernelIdeal.Gen

variable (m : (ℓ : Loc nD τ sig) → Buf (Elt Ideal) ℓ)

/-- The class-0 logits as the host part before the region prepares them: channel 0 of the class head, as one
    [4, 125, 160] array. -/
theorem clsIn_eq (c : Dev nD) : Scores.clsIn m c = shapeCast S4x125x160
    (extractStridedSlice S4x1x125x160 ![0, 0, 0, 0] (m ((c : Thread nD τ).loc main_arg1))
      slices_S4x80x125x160_S4x1x125x160_0_0_0_0) shapeCasts_S4x1x125x160_S4x125x160 := by
  unfold Scores.clsIn; entry_read; rfl

/-- The centerness logits as prepared: the centerness head as one [4, 125, 160] array. -/
theorem ctrIn_eq (c : Dev nD) : Scores.ctrIn m c = shapeCast S4x125x160
    (m ((c : Thread nD τ).loc main_arg3)) shapeCasts_S4x1x125x160_S4x125x160 := by
  unfold Scores.ctrIn; entry_read; rfl

/-- The kernel's masked scores, one row of 20000 locations for each image. -/
abbrev flat (c : Dev nD) : FVec Ideal S4x20000 .f32 :=
  shapeCast S4x20000 (Scores.grid (Scores.clsIn m c) (Scores.ctrIn m c)) shapeCasts_S4x125x160_S4x20000

/-- `1 / (1 + exp (-x))` at every element, in the host's operations. -/
abbrev sigmoid {s : Shape} (h : ReferenceIdeal.S_.BroadcastsInDim s ![]) (x : FVec Ideal s .f32) : FVec Ideal s .f32 :=
  Host.divf (broadcastInDim s ![] h (constant S_ .f32 0x3F800000#32))
    (addf (broadcastInDim s ![] h (constant S_ .f32 0x3F800000#32)) (Host.exp (Host.negf x)))

/-- The reference's class probabilities: channels moved last, one row of 20000 locations for each image, the sigmoid,
    channel 0. -/
abbrev refCls (a : FVec Ideal ReferenceIdeal.S4x80x125x160 .f32) : FVec Ideal ReferenceIdeal.S4x20000x1 .f32 :=
  extractStridedSlice ReferenceIdeal.S4x20000x1 ![0, 0, 0]
    (sigmoid ReferenceIdeal.Gen.bcast_S_S4x20000x80
      (shapeCast ReferenceIdeal.S4x20000x80 (transpose ReferenceIdeal.S4x125x160x80 [0, 2, 3, 1] a
        ReferenceIdeal.Gen.transposes_S4x80x125x160_S4x125x160x80_0_2_3_1)
        ReferenceIdeal.Gen.shapeCasts_S4x125x160x80_S4x20000x80))
    ReferenceIdeal.Gen.slices_S4x20000x80_S4x20000x1_0_0_0

/-- The reference's centerness probabilities, prepared the same way. -/
abbrev refCtr (a : FVec Ideal ReferenceIdeal.S4x1x125x160 .f32) : FVec Ideal ReferenceIdeal.S4x20000 .f32 :=
  sigmoid ReferenceIdeal.Gen.bcast_S_S4x20000
    (shapeCast ReferenceIdeal.S4x20000 (transpose ReferenceIdeal.S4x125x160x1 [0, 2, 3, 1] a
      ReferenceIdeal.Gen.transposes_S4x1x125x160_S4x125x160x1_0_2_3_1)
      ReferenceIdeal.Gen.shapeCasts_S4x125x160x1_S4x20000)

/-- The reference's masked scores of the two head outputs. -/
abbrev refMasked (a1 : FVec Ideal ReferenceIdeal.S4x80x125x160 .f32) (a3 : FVec Ideal ReferenceIdeal.S4x1x125x160 .f32) :
    FVec Ideal ReferenceIdeal.S4x20000 .f32 :=
  shapeCast ReferenceIdeal.S4x20000
    (select (cmpf .ogt (refCls a1) (broadcastInDim ReferenceIdeal.S4x20000x1 ![] ReferenceIdeal.Gen.bcast_S_S4x20000x1
        (constant ReferenceIdeal.S_ .f32 0x3D4CCCCD#32)))
      (mulf (refCls a1) (broadcastInDim ReferenceIdeal.S4x20000x1 ![0, 1]
        ReferenceIdeal.Gen.bcast_S4x20000_S4x20000x1_0_1 (refCtr a3)))
      (broadcastInDim ReferenceIdeal.S4x20000x1 ![] ReferenceIdeal.Gen.bcast_S_S4x20000x1
        (id (constant ReferenceIdeal.S_ .f32 0xBF800000#32))))
    ReferenceIdeal.Gen.shapeCasts_S4x20000x1_S4x20000

/-- The kernel's masked scores of the two head outputs. -/
abbrev kerMasked (a1 : FVec Ideal S4x80x125x160 .f32) (a3 : FVec Ideal S4x1x125x160 .f32) : FVec Ideal S4x20000 .f32 :=
  shapeCast S4x20000 (Scores.grid
    (shapeCast S4x125x160 (extractStridedSlice S4x1x125x160 ![0, 0, 0, 0] a1
      slices_S4x80x125x160_S4x1x125x160_0_0_0_0) shapeCasts_S4x1x125x160_S4x125x160)
    (shapeCast S4x125x160 a3 shapeCasts_S4x1x125x160_S4x125x160)) shapeCasts_S4x125x160_S4x20000

/-- The two agree: location `p` of a row is row `p / 160`, column `p % 160` of the grid, channels moved last on the
    one side and sliced off on the other. -/
theorem ker_eq_ref (a1 : FVec Ideal S4x80x125x160 .f32) (a3 : FVec Ideal S4x1x125x160 .f32) :
    kerMasked a1 a3 = refMasked a1 a3 := by
  funext j
  pointwise [kerMasked, refMasked, refCls, refCtr, sigmoid, Scores.grid, Ideal.logistic, id]

/-- The reference's masked scores, read off its run, are the kernel's on equal arguments. -/
theorem masked_eq (c : Dev nD) (m' : (ℓ : Loc nD ReferenceIdeal.τ ReferenceIdeal.sig) → Buf (Elt Ideal) ℓ)
    (h1 : m' ((c.tc : Thread nD ReferenceIdeal.τ).loc ReferenceIdeal.main_arg1) = m ((c : Thread nD τ).loc main_arg1))
    (h3 : m' ((c.tc : Thread nD ReferenceIdeal.τ).loc ReferenceIdeal.main_arg3) = m ((c : Thread nD τ).loc main_arg3)) :
    ReferenceIdeal.Value.res_main_v24 (StableHlo.launchContents m' c) = flat m c := by
  unfold flat
  rw [clsIn_eq, ctrIn_eq, ← h1, ← h3]
  exact (ker_eq_ref _ _).symm

end Cert.KernelIdeal.Masked
-- ==== Proof.Results.lean ====
/-
  The kernel program's four results after all its host operations, as functions of the region's scores and the other
  arguments; and its run with those results read.
-/
module

public import proofs.«01_k».proof.Proof.Tail
public import proofs.«01_k».proof.Proof.Masked

@[expose] public section

set_option maxRecDepth 16384
set_option maxHeartbeats 2000000

noncomputable section

open Idealize.ShloMosaic Idealize.ShloMosaic.TcCoe Idealize.ShloMosaic.StableHlo Idealize.SL.Sem

namespace Cert.KernelIdeal.Results

open Cert.KernelIdeal Cert.KernelIdeal.Gen Cert.KernelIdeal.Detect Cert.KernelIdeal.Tail

section Stages

variable {F : FTy → Type} [FloatOps F] (W : Valuation τ sig (Elt F))

/-! ## The arrays after each group of host operations -/

/-- The arrays after the first group. -/
def stage0 : Valuation τ sig (Elt F) := after hostOps1 W
/-- The arrays after the second group. -/
def stage1 : Valuation τ sig (Elt F) := after hostOps1_1 (stage0 W)
/-- The arrays after the third group. -/
def stage2 : Valuation τ sig (Elt F) := after hostOps1_2 (stage1 W)
/-- The arrays after the fourth group. -/
def stage3 : Valuation τ sig (Elt F) := after hostOps1_3 (stage2 W)
/-- The arrays after the fifth group. -/
def stage4 : Valuation τ sig (Elt F) := after hostOps1_4 (stage3 W)
/-- The arrays after the sixth group. -/
def stage5 : Valuation τ sig (Elt F) := after hostOps1_5 (stage4 W)
/-- The arrays after the seventh group. -/
def stage6 : Valuation τ sig (Elt F) := after hostOps1_6 (stage5 W)
/-- The arrays after the eighth group. -/
def stage7 : Valuation τ sig (Elt F) := after hostOps1_7 (stage6 W)
/-- The arrays after the ninth group. -/
def stage8 : Valuation τ sig (Elt F) := after hostOps1_8 (stage7 W)
/-- The arrays after the tenth group. -/
def stage9 : Valuation τ sig (Elt F) := after hostOps1_9 (stage8 W)
/-- The arrays after the eleventh group. -/
def stage10 : Valuation τ sig (Elt F) := after hostOps1_10 (stage9 W)
/-- The arrays after the twelfth group. -/
def stage11 : Valuation τ sig (Elt F) := after hostOps1_11 (stage10 W)

/-! ## An array a group does not write is what it was before the group -/

/-- What the first group does not write it leaves. -/
theorem keep0 (b : Ref sig .tc) (h : b ∉ hostOps1_W) : stage0 W (Proc.devRef .tc b) = W (Proc.devRef .tc b) :=
  after_of_writes_sub (r := b) hostOps1 _ hostOps1_writes h
/-- What the second group does not write it leaves. -/
theorem keep1 (b : Ref sig .tc) (h : b ∉ hostOps1_1_W) : stage1 W (Proc.devRef .tc b) = stage0 W (Proc.devRef .tc b) :=
  after_of_writes_sub (r := b) hostOps1_1 _ hostOps1_1_writes h
/-- What the third group does not write it leaves. -/
theorem keep2 (b : Ref sig .tc) (h : b ∉ hostOps1_2_W) : stage2 W (Proc.devRef .tc b) = stage1 W (Proc.devRef .tc b) :=
  after_of_writes_sub (r := b) hostOps1_2 _ hostOps1_2_writes h
/-- What the fourth group does not write it leaves. -/
theorem keep3 (b : Ref sig .tc) (h : b ∉ hostOps1_3_W) : stage3 W (Proc.devRef .tc b) = stage2 W (Proc.devRef .tc b) :=
  after_of_writes_sub (r := b) hostOps1_3 _ hostOps1_3_writes h
/-- What the fifth group does not write it leaves. -/
theorem keep4 (b : Ref sig .tc) (h : b ∉ hostOps1_4_W) : stage4 W (Proc.devRef .tc b) = stage3 W (Proc.devRef .tc b) :=
  after_of_writes_sub (r := b) hostOps1_4 _ hostOps1_4_writes h
/-- What the sixth group does not write it leaves. -/
theorem keep5 (b : Ref sig .tc) (h : b ∉ hostOps1_5_W) : stage5 W (Proc.devRef .tc b) = stage4 W (Proc.devRef .tc b) :=
  after_of_writes_sub (r := b) hostOps1_5 _ hostOps1_5_writes h
/-- What the seventh group does not write it leaves. -/
theorem keep6 (b : Ref sig .tc) (h : b ∉ hostOps1_6_W) : stage6 W (Proc.devRef .tc b) = stage5 W (Proc.devRef .tc b) :=
  after_of_writes_sub (r := b) hostOps1_6 _ hostOps1_6_writes h
/-- What the eighth group does not write it leaves. -/
theorem keep7 (b : Ref sig .tc) (h : b ∉ hostOps1_7_W) : stage7 W (Proc.devRef .tc b) = stage6 W (Proc.devRef .tc b) :=
  after_of_writes_sub (r := b) hostOps1_7 _ hostOps1_7_writes h
/-- What the ninth group does not write it leaves. -/
theorem keep8 (b : Ref sig .tc) (h : b ∉ hostOps1_8_W) : stage8 W (Proc.devRef .tc b) = stage7 W (Proc.devRef .tc b) :=
  after_of_writes_sub (r := b) hostOps1_8 _ hostOps1_8_writes h
/-- What the tenth group does not write it leaves. -/
theorem keep9 (b : Ref sig .tc) (h : b ∉ hostOps1_9_W) : stage9 W (Proc.devRef .tc b) = stage8 W (Proc.devRef .tc b) :=
  after_of_writes_sub (r := b) hostOps1_9 _ hostOps1_9_writes h
/-- What the eleventh group does not write it leaves. -/
theorem keep10 (b : Ref sig .tc) (h : b ∉ hostOps1_10_W) : stage10 W (Proc.devRef .tc b) = stage9 W (Proc.devRef .tc b) :=
  after_of_writes_sub (r := b) hostOps1_10 _ hostOps1_10_writes h
/-- What the twelfth group does not write it leaves. -/
theorem keep11 (b : Ref sig .tc) (h : b ∉ hostOps1_11_W) : stage11 W (Proc.devRef .tc b) = stage10 W (Proc.devRef .tc b) :=
  after_of_writes_sub (r := b) hostOps1_11 _ hostOps1_11_writes h

/-! ## The results, stage by stage -/

/-- The locations of the best scores are still there after the second group. -/
theorem indices_1 : stage1 W (Proc.devRef .tc main_indices) = topLocs (scores W) := by
  rw [keep1 W _ (by decide +kernel)]; exact indices W

/-- After the third group: the regressions of the best locations. -/
theorem reg_2 : stage2 W (Proc.devRef .tc main_v11) = bestReg (at_ W main_arg2) (scores W) := by
  rw [keep2 W _ (by decide +kernel)]
  refine (v11 (stage0 W)).trans ?_
  unfold bestReg
  rw [← v9 W, ← v10 W]; rfl

/-- After the third group: the coordinates of the best locations. -/
theorem loc_2 : stage2 W (Proc.devRef .tc main_v12) = bestLoc (at_ W main_arg0) (scores W) := by
  refine (v12 (stage1 W)).trans ?_
  unfold bestLoc
  rw [← indices_1 W]
  unfold at_
  rw [keep1 W main_arg0 (by decide +kernel), keep0 W main_arg0 (by decide +kernel)]

/-- After the third group: the image sizes, untouched. -/
theorem arg4_2 : stage2 W (Proc.devRef .tc main_arg4) = at_ W main_arg4 := by
  rw [keep2 W _ (by decide +kernel), keep1 W _ (by decide +kernel), keep0 W _ (by decide +kernel)]

/-- The left edges, clipped by the fifth group. -/
theorem x1_4 : stage4 W (Proc.devRef .tc main_v43) = x1 (at_ W main_arg0) (at_ W main_arg2) (at_ W main_arg4) (scores W) := by
  refine (v43 (stage3 W)).trans ?_
  unfold x1
  rw [← loc_2 W, ← reg_2 W, ← arg4_2 W]
  exact congr (congrArg₂ clip (cst_1 _) (v17 _)) (v42 _)

/-- The right edges, clipped by the seventh group. -/
theorem x2_6 : stage6 W (Proc.devRef .tc main_v46) = x2 (at_ W main_arg0) (at_ W main_arg2) (at_ W main_arg4) (scores W) := by
  refine (v46 (stage5 W)).trans ?_
  unfold x2
  rw [← loc_2 W, ← reg_2 W, ← arg4_2 W]
  refine congr (congrArg₂ clip (cst_3 _) ?_) ((v45 _).trans (congrArg lessOne ?_))
  · rw [at_, keep5 W _ (by decide +kernel), keep4 W _ (by decide +kernel)]; exact v27 _
  · rw [at_, keep4 W _ (by decide +kernel)]; exact v40 _

/-- The top edges, clipped by the ninth group. -/
theorem y1_8 : stage8 W (Proc.devRef .tc main_v49) = y1 (at_ W main_arg0) (at_ W main_arg2) (at_ W main_arg4) (scores W) := by
  refine (v49 (stage7 W)).trans ?_
  unfold y1
  rw [← loc_2 W, ← reg_2 W, ← arg4_2 W]
  refine congr (congrArg₂ clip (cst_5 _) ?_) ((v48 _).trans (congrArg lessOne ?_))
  · rw [at_, keep7 W _ (by decide +kernel), keep6 W _ (by decide +kernel), keep5 W _ (by decide +kernel),
      keep4 W _ (by decide +kernel)]; exact v22 _
  · rw [at_, keep6 W _ (by decide +kernel), keep5 W _ (by decide +kernel), keep4 W _ (by decide +kernel)]; exact v36 _

/-- The bottom edges, clipped by the eleventh group. -/
theorem y2_10 : stage10 W (Proc.devRef .tc main_v52) = y2 (at_ W main_arg0) (at_ W main_arg2) (at_ W main_arg4) (scores W) := by
  refine (v52 (stage9 W)).trans ?_
  unfold y2
  rw [← loc_2 W, ← reg_2 W, ← arg4_2 W]
  refine congr (congrArg₂ clip (cst_7 _) ?_) ((v51 _).trans (congrArg lessOne ?_))
  · rw [at_, keep9 W _ (by decide +kernel), keep8 W _ (by decide +kernel), keep7 W _ (by decide +kernel),
      keep6 W _ (by decide +kernel), keep5 W _ (by decide +kernel), keep4 W _ (by decide +kernel)]; exact v32 _
  · rw [at_, keep8 W _ (by decide +kernel), keep7 W _ (by decide +kernel), keep6 W _ (by decide +kernel),
      keep5 W _ (by decide +kernel), keep4 W _ (by decide +kernel)]; exact v36 _

/-- An array no group after the first writes. -/
theorem stage10_of_stage0 (b : Ref sig .tc) (h : b ∉ hostOps1_1_W ++ hostOps1_2_W ++ hostOps1_3_W ++ hostOps1_4_W
      ++ hostOps1_5_W ++ hostOps1_6_W ++ hostOps1_7_W ++ hostOps1_8_W ++ hostOps1_9_W ++ hostOps1_10_W) :
    stage10 W (Proc.devRef .tc b) = stage0 W (Proc.devRef .tc b) := by
  simp only [List.mem_append, not_or] at h
  obtain ⟨⟨⟨⟨⟨⟨⟨⟨⟨h1, h2⟩, h3⟩, h4⟩, h5⟩, h6⟩, h7⟩, h8⟩, h9⟩, h10⟩ := h
  rw [keep10 W b h10, keep9 W b h9, keep8 W b h8, keep7 W b h7, keep6 W b h6, keep5 W b h5, keep4 W b h4, keep3 W b h3,
    keep2 W b h2, keep1 W b h1]

/-- The left edges as the last group finds them. -/
theorem x1_10 : at_ (stage10 W) main_v43 = x1 (at_ W main_arg0) (at_ W main_arg2) (at_ W main_arg4) (scores W) := by
  rw [at_, keep10 W _ (by decide +kernel), keep9 W _ (by decide +kernel), keep8 W _ (by decide +kernel),
    keep7 W _ (by decide +kernel), keep6 W _ (by decide +kernel), keep5 W _ (by decide +kernel), x1_4]

/-- The right edges as the last group finds them. -/
theorem x2_10 : at_ (stage10 W) main_v46 = x2 (at_ W main_arg0) (at_ W main_arg2) (at_ W main_arg4) (scores W) := by
  rw [at_, keep10 W _ (by decide +kernel), keep9 W _ (by decide +kernel), keep8 W _ (by decide +kernel),
    keep7 W _ (by decide +kernel), x2_6]

/-- The top edges as the last group finds them. -/
theorem y1_10 : at_ (stage10 W) main_v49 = y1 (at_ W main_arg0) (at_ W main_arg2) (at_ W main_arg4) (scores W) := by
  rw [at_, keep10 W _ (by decide +kernel), keep9 W _ (by decide +kernel), y1_8]

/-- The bottom edges as the last group finds them. -/
theorem y2_at : at_ (stage10 W) main_v52 = y2 (at_ W main_arg0) (at_ W main_arg2) (at_ W main_arg4) (scores W) := y2_10 W

/-- The mask of the scores kept as the last group finds it. -/
theorem valid_10 : at_ (stage10 W) main_v6 = valid (topScores (scores W)) := by
  rw [at_, stage10_of_stage0 W _ (by decide +kernel)]; exact v6 W

/-! ## The four results -/

/-- The detections. -/
theorem detections_11 : stage11 W (Proc.devRef .tc main_v57)
    = detections (at_ W main_arg0) (at_ W main_arg2) (at_ W main_arg4) (scores W) := by
  refine (v57 (stage10 W)).trans ?_
  rw [x1_10, y1_10, x2_10, y2_at]; rfl

/-- The best scores. -/
theorem values_11 : stage11 W (Proc.devRef .tc main_values) = topScores (scores W) := by
  rw [keep11 W _ (by decide +kernel), stage10_of_stage0 W _ (by decide +kernel)]; exact values W

/-- The labels. -/
theorem labels_11 : stage11 W (Proc.devRef .tc main_v7) = labels := by
  rw [keep11 W _ (by decide +kernel), stage10_of_stage0 W _ (by decide +kernel)]; exact v7 W

/-- The mask of the boxes kept. -/
theorem kept_11 : stage11 W (Proc.devRef .tc main_v69)
    = kept (at_ W main_arg0) (at_ W main_arg2) (at_ W main_arg4) (scores W) := by
  refine (v69 (stage10 W)).trans ?_
  rw [x1_10, y1_10, x2_10, valid_10, y2_at]; rfl

end Stages

/-! ## The run -/

variable (m : (ℓ : Loc nD τ sig) → Buf (Elt Ideal) ℓ) (ρ : Dev nD → PrngReg)

/-- The arrays the tail starts from: the region's arrays as the region leaves them, everything else as the host part
    before the region left it. -/
abbrev start (c : Dev nD) : Valuation τ sig (Elt Ideal) :=
  Pipeline.withArrays (cfgs 0).spec c (V0 m c) fun w => (dats m 0 c).arrAt w (cfgs 0).N

/-- The whole tail is its last stage. -/
theorem tail_eq (c : Dev nD) (b : Ref sig .tc) :
    Pipeline.afterTail₀ cfgs (dats m) 0 (V0 m) [hostOps1, hostOps1_1, hostOps1_2, hostOps1_3, hostOps1_4, hostOps1_5, hostOps1_6,
      hostOps1_7, hostOps1_8, hostOps1_9, hostOps1_10, hostOps1_11] c b = stage11 (start m c) (Proc.devRef .tc b) := by
  unfold Pipeline.afterTail₀
  simp only [List.flatten_cons, List.flatten_nil, List.append_nil, after_append]
  rfl

/-- The tail's scores are the masked scores of the arguments. -/
theorem start_scores (c : Dev nD) : scores (start m c) = Masked.flat m c := by
  have h : at_ (start m c) main_v3 = (dats m 0 c).arrAt 2 (cfgs 0).N :=
    Pipeline.withArrays_arr spec0 (by decide) c (V0 m c) _ 2
  unfold scores
  rw [h, Scores.final m c]

/-- The coordinates reach the tail as launched. -/
theorem start_arg0 (c : Dev nD) : at_ (start m c) main_arg0 = m ((c : Thread nD τ).loc main_arg0) :=
  (Pipeline.withArrays_of_ne _ c (V0 m c) _ main_arg0 (by exact (by decide : ∀ w, Pipeline.arrRef spec0 w ≠ main_arg0))).trans
    (V_main_arg0 m c)

/-- The regression head reaches the tail as launched. -/
theorem start_arg2 (c : Dev nD) : at_ (start m c) main_arg2 = m ((c : Thread nD τ).loc main_arg2) :=
  (Pipeline.withArrays_of_ne _ c (V0 m c) _ main_arg2 (by exact (by decide : ∀ w, Pipeline.arrRef spec0 w ≠ main_arg2))).trans
    (V_main_arg2 m c)

/-- The image sizes reach the tail as launched. -/
theorem start_arg4 (c : Dev nD) : at_ (start m c) main_arg4 = m ((c : Thread nD τ).loc main_arg4) :=
  (Pipeline.withArrays_of_ne _ c (V0 m c) _ main_arg4 (by exact (by decide : ∀ w, Pipeline.arrRef spec0 w ≠ main_arg4))).trans
    (V_main_arg4 m c)

/-- Every run of the kernel program ends with its four results at the named functions of its arguments, and with the
    arguments as launched. -/
theorem run : θ_run defs (onTc (τ := τ) (main (F := Ideal))) ⟨m, fun _ => 0, ρ⟩ fun r => ∀ c : Dev nD,
      r.2.mem ((c.tc : Thread nD τ).loc main_v57) = detections (m ((c.tc : Thread nD τ).loc main_arg0))
        (m ((c.tc : Thread nD τ).loc main_arg2)) (m ((c.tc : Thread nD τ).loc main_arg4)) (Masked.flat m c)
      ∧ r.2.mem ((c.tc : Thread nD τ).loc main_values) = topScores (Masked.flat m c)
      ∧ r.2.mem ((c.tc : Thread nD τ).loc main_v7) = labels
      ∧ r.2.mem ((c.tc : Thread nD τ).loc main_v69) = kept (m ((c.tc : Thread nD τ).loc main_arg0))
        (m ((c.tc : Thread nD τ).loc main_arg2)) (m ((c.tc : Thread nD τ).loc main_arg4)) (Masked.flat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (θ_run_and (run_main m ρ) (unchanged m ρ))
  have e (b : Ref sig .tc) (hb : b ∈ Pipeline.restRefs sig spec0) : r.2.mem ((c.tc : Thread nD τ).loc b)
      = stage11 (start m c) (Proc.devRef .tc b) := ((h.1 c).2 b hb).trans (tail_eq m c b)
  refine ⟨(e main_v57 (Pipeline.mem_restRefs_of _ (by decide) (by decide))).trans (detections_11 _ |>.trans ?_),
    (e main_values (Pipeline.mem_restRefs_of _ (by decide) (by decide))).trans (values_11 _ |>.trans ?_),
    (e main_v7 (Pipeline.mem_restRefs_of _ (by decide) (by decide))).trans (labels_11 _),
    (e main_v69 (Pipeline.mem_restRefs_of _ (by decide) (by decide))).trans (kept_11 _ |>.trans ?_), h.2 c⟩
  · rw [start_arg0, start_arg2, start_arg4, start_scores]
  · rw [start_scores]
  · rw [start_arg0, start_arg2, start_arg4, start_scores]

end Cert.KernelIdeal.Results
-- ==== Proof.RefRead.lean ====
/-
  The reference's four results as the same named functions of its masked scores and its other arguments.
-/
module

public import proofs.«01_k».proof.Proof.Detect
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.ShloMosaic.StableHlo Idealize.SL.Sem

namespace Cert.ReferenceIdeal.Read

open Cert.ReferenceIdeal Cert.ReferenceIdeal.Gen Cert.ReferenceIdeal.Value

variable {F : FTy → Type} [FloatOps F] (V0 : Valuation τ sig (Elt F))

/-- The contents of an argument. -/
abbrev arg (V0 : Valuation τ sig (Elt F)) (b : Ref sig .tc) :=
  V0 (Proc.devRef .tc b)

/-- The locations of the best scores. -/
theorem locs : res_main_indices V0 = KernelIdeal.Detect.topLocs (res_main_v24 V0) := rfl

/-- The regressions there. -/
theorem reg : res_main_v29 V0 = KernelIdeal.Detect.bestReg (arg V0 main_arg2) (res_main_v24 V0) := by
  unfold res_main_v29 res_main_call1_v4 res_main_v28 KernelIdeal.Detect.bestReg
  rw [locs]; rfl

/-- The coordinates there. -/
theorem loc : res_main_v30 V0 = KernelIdeal.Detect.bestLoc (arg V0 main_arg0) (res_main_v24 V0) := by
  unfold res_main_v30 res_main_call2_v5 KernelIdeal.Detect.bestLoc
  rw [locs]; rfl

/-- The left edges. -/
theorem x1 : res_main_v61 V0 = KernelIdeal.Detect.x1 (arg V0 main_arg0) (arg V0 main_arg2)
    (arg V0 main_arg4) (res_main_v24 V0) := by
  unfold res_main_v61 KernelIdeal.Detect.x1
  rw [loc, reg]; rfl

/-- The right edges. -/
theorem x2 : res_main_v64 V0 = KernelIdeal.Detect.x2 (arg V0 main_arg0) (arg V0 main_arg2)
    (arg V0 main_arg4) (res_main_v24 V0) := by
  unfold res_main_v64 KernelIdeal.Detect.x2
  rw [loc, reg]; rfl

/-- The top edges. -/
theorem y1 : res_main_v67 V0 = KernelIdeal.Detect.y1 (arg V0 main_arg0) (arg V0 main_arg2)
    (arg V0 main_arg4) (res_main_v24 V0) := by
  unfold res_main_v67 KernelIdeal.Detect.y1
  rw [loc, reg]; rfl

/-- The bottom edges. -/
theorem y2 : res_main_v70 V0 = KernelIdeal.Detect.y2 (arg V0 main_arg0) (arg V0 main_arg2)
    (arg V0 main_arg4) (res_main_v24 V0) := by
  unfold res_main_v70 KernelIdeal.Detect.y2
  rw [loc, reg]; rfl

variable (m : (ℓ : Loc nD τ sig) → Buf (Elt F) ℓ) (ρ : Dev nD → PrngReg)

/-- Every run of the reference ends with its four results at the named functions of its masked scores and arguments,
    and with the arguments as launched. -/
theorem run : θ_run defs (onTc (τ := τ) (main (F := F))) ⟨m, fun _ => 0, ρ⟩
    fun r => ∀ c : Dev nD,
      r.2.mem ((c.tc : Thread nD τ).loc main_v75)
        = KernelIdeal.Detect.detections (m ((c.tc : Thread nD τ).loc main_arg0))
            (m ((c.tc : Thread nD τ).loc main_arg2))
            (m ((c.tc : Thread nD τ).loc main_arg4)) (res_main_v24 (launchContents m c))
      ∧ r.2.mem ((c.tc : Thread nD τ).loc main_values)
        = KernelIdeal.Detect.topScores (res_main_v24 (launchContents m c))
      ∧ r.2.mem ((c.tc : Thread nD τ).loc main_v27) = KernelIdeal.Detect.labels
      ∧ r.2.mem ((c.tc : Thread nD τ).loc main_v87)
        = KernelIdeal.Detect.kept (m ((c.tc : Thread nD τ).loc main_arg0))
            (m ((c.tc : Thread nD τ).loc main_arg2))
            (m ((c.tc : Thread nD τ).loc main_arg4)) (res_main_v24 (launchContents m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Value.run m ρ)
  obtain ⟨h1, h2, h3, h4, h5⟩ := h c
  refine ⟨h1.trans ?_, h2, h3, h4.trans ?_, h5⟩
  · rw [x1, x2, y1, y2]; rfl
  · rw [x1, x2, y1, y2]; rfl

/-- Every run of the reference leaves its arguments as launched and every semaphore counter at zero: it declares no
    semaphore. -/
theorem frame : θ_run defs (onTc (τ := τ) (main (F := F))) ⟨m, fun _ => 0, ρ⟩
    fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono
    (fun r h => ⟨fun c => (h c).2.2.2.2, sem_eq_zero_of_no_sems (by decide) r.2⟩) (run m ρ)

end Cert.ReferenceIdeal.Read
-- ==== Proof.lean ====
/-
  The proof of the claims about the kernel and its reference: the three programs' frames, the kernel's reading over the
  extended reals being its own text, and the equality of the four results on equal arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Results
public import proofs.«01_k».proof.Proof.RefRead
public import Idealize.ShloMosaic.Adequacy
public import Idealize.ShloMosaic.Init

@[expose] public section

noncomputable section

namespace Cert.Proof

open Idealize.ShloMosaic Idealize.SL.Sem

/-- On equal arguments the kernel and the reference end with equal detections, scores, labels and masks: both are the
    same functions of the masked scores, which agree. -/
theorem results_agree : Cert.algebraic_KernelIdeal_ReferenceIdeal
    (hKernelIdeal := Cert.KernelIdeal.Gen.facts) (hReferenceIdeal := Cert.ReferenceIdeal.Gen.facts) := by
  intro m g m' g' _ hagree
  refine ⟨_, _, _, _, Cert.KernelIdeal.Results.run m g, ?_⟩
  refine (θ_run Cert.ReferenceIdeal.defs _ _).mono (fun r h c => ?_) (Cert.ReferenceIdeal.Read.run m' g')
  obtain ⟨a0, a1, a2, a3, a4⟩ := hagree c
  have hc := h c
  rw [Cert.KernelIdeal.Masked.masked_eq m c m' a1 a3] at hc
  obtain ⟨h1, h2, h3, h4, h5⟩ := hc
  rw [a0, a2, a4] at h1 h4
  exact ⟨h1, h2, h3, h4, h5⟩

/-- The five claims. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => Cert.ReferenceIdeal.Read.frame m g,
  trivial,
  results_agree⟩

end Cert.Proof

end
